-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonzero [hPre_scales_nonzero : Cert.Pre_scales_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonzero [hPre_scales_nonzero : Cert.Pre_scales_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scales_nonzero [hKernelIdeal : Cert.KernelIdeal.Facts] [hPre_scales_nonzero : Cert.Pre_scales_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scales_nonzero [hReferenceIdeal : Cert.ReferenceIdeal.Facts] [hPre_scales_nonzero : Cert.Pre_scales_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scales_nonzero [hKernelIdeal : Cert.KernelIdeal.Facts] [hReferenceIdeal : Cert.ReferenceIdeal.Facts] [hPre_scales_nonzero : Cert.Pre_scales_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scales_nonzero : Cert.Pre_scales_nonzero.Facts),
    quiescent_Kernel (hKernel := hKernel)
    ∧ quiescent_KernelIdeal (hKernelIdeal := hKernelIdeal)
    ∧ quiescent_KernelIdeal_pre_scales_nonzero (hKernelIdeal := hKernelIdeal) (hPre_scales_nonzero := hPre_scales_nonzero)
    ∧ quiescent_ReferenceIdeal (hReferenceIdeal := hReferenceIdeal)
    ∧ quiescent_ReferenceIdeal_pre_scales_nonzero (hReferenceIdeal := hReferenceIdeal) (hPre_scales_nonzero := hPre_scales_nonzero)
    ∧ preserves_Kernel_KernelIdeal
    ∧ algebraic_KernelIdeal_ReferenceIdeal_pre_scales_nonzero (hKernelIdeal := hKernelIdeal) (hReferenceIdeal := hReferenceIdeal) (hPre_scales_nonzero := hPre_scales_nonzero)
-- ==== Pre_scales_nonzero.lean ====
abbrev S16x128x16384 : Shape := ⟨3, ![16, 128, 16384]⟩
abbrev S128 : Shape := ⟨1, ![128]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S16x128x16384 .f32) (main_arg1 : FVec F S128 .f32) : IVec S128 1 :=
  let main_cst : FVec F S_ .f32 := constant S_ .f32 0x00000000#32
  let main_v0 : FVec F S128 .f32 := broadcastInDim S128 ![] bcast_S_S128 main_cst
  let main_v1 : IVec S128 1 := cmpf .une main_arg1 main_v0
  main_v1
-- ==== Kernel.lean ====
abbrev S16x128x16384 : Shape := ⟨3, ![16, 128, 16384]⟩
abbrev S128 : Shape := ⟨1, ![128]⟩
abbrev S1x128 : Shape := ⟨2, ![1, 128]⟩
abbrev S8x128 : Shape := ⟨2, ![8, 128]⟩
abbrev S16x128x8192 : Shape := ⟨3, ![16, 128, 8192]⟩
abbrev S1x128x16384 : Shape := ⟨3, ![1, 128, 16384]⟩
abbrev S1x128x8192 : Shape := ⟨3, ![1, 128, 8192]⟩
abbrev S8208x128 : Shape := ⟨2, ![8208, 128]⟩
abbrev S6x128 : Shape := ⟨2, ![6, 128]⟩
abbrev S10x128 : Shape := ⟨2, ![10, 128]⟩
abbrev S128x128 : Shape := ⟨2, ![128, 128]⟩
abbrev S1x128x128 : Shape := ⟨3, ![1, 128, 128]⟩
abbrev S128x128x1 : Shape := ⟨3, ![128, 128, 1]⟩
abbrev S64x128 : Shape := ⟨2, ![64, 128]⟩
abbrev S1024x128 : Shape := ⟨2, ![1024, 128]⟩

abbrev nBuf : Space → Nat
  | .hbm => 5
  | .vmem => 7
  | .smem => 0
  | _ => 0

abbrev bufTy : (tb : Table) → Fin (tcTables nBuf tb) → BufTy
  | .hbm, ⟨0, _⟩ => ⟨S16x128x16384, .f32⟩
  | .hbm, ⟨1, _⟩ => ⟨S128, .f32⟩
  | .hbm, ⟨2, _⟩ => ⟨S1x128, .f32⟩
  | .hbm, ⟨3, _⟩ => ⟨S8x128, .f32⟩
  | .hbm, ⟨4, _⟩ => ⟨S16x128x8192, .f32⟩
  | .local _ .vmem, ⟨0, _⟩ => ⟨S1x128x16384, .f32⟩
  | .local _ .vmem, ⟨1, _⟩ => ⟨S1x128x16384, .f32⟩
  | .local _ .vmem, ⟨2, _⟩ => ⟨S8x128, .f32⟩
  | .local _ .vmem, ⟨3, _⟩ => ⟨S1x128x8192, .f32⟩
  | .local _ .vmem, ⟨4, _⟩ => ⟨S1x128x8192, .f32⟩
  | .local _ .vmem, ⟨5, _⟩ => ⟨S8208x128, .f32⟩
  | .local _ .vmem, ⟨6, _⟩ => ⟨S8208x128, .f32⟩
  | _, _ => ⟨S16x128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16x128x16384 : Shape := ⟨3, ![16, 128, 16384]⟩
abbrev S128 : Shape := ⟨1, ![128]⟩
abbrev S_ : Shape := ⟨0, ![]⟩
abbrev S24 : Shape := ⟨1, ![24]⟩
abbrev S1 : Shape := ⟨1, ![1]⟩
abbrev S25 : Shape := ⟨1, ![25]⟩
abbrev S1x25 : Shape := ⟨2, ![1, 25]⟩
abbrev S128x1 : Shape := ⟨2, ![128, 1]⟩
abbrev S128x25 : Shape := ⟨2, ![128, 25]⟩
abbrev S16x128x16408 : Shape := ⟨3, ![16, 128, 16408]⟩
abbrev S1x128x1 : Shape := ⟨3, ![1, 128, 1]⟩
abbrev S16x128x8192 : Shape := ⟨3, ![16, 128, 8192]⟩

abbrev nBuf : Space → Nat
  | .hbm => 216
  | .vmem => 0
  | .smem => 0
  | _ => 0

abbrev hbmTy0_0 (i : Nat) : BufTy := match i % 128 with
  | 0 => ⟨S16x128x16384, .f32⟩
  | 1 => ⟨S128, .f32⟩
  | 2 => ⟨S_, .i32⟩
  | 3 => ⟨S_, .i32⟩
  | 4 => ⟨S_, .f32⟩
  | 5 => ⟨S_, .f32⟩
  | 6 => ⟨S_, .f32⟩
  | 7 => ⟨S_, .f32⟩
  | 8 => ⟨S_, .f32⟩
  | 9 => ⟨S24, .f32⟩
  | 10 => ⟨S_, .f32⟩
  | 11 => ⟨S24, .f32⟩
  | 12 => ⟨S24, .f32⟩
  | 13 => ⟨S1, .f32⟩
  | 14 => ⟨S_, .f32⟩
  | 15 => ⟨S24, .f32⟩
  | 16 => ⟨S24, .f32⟩
  | 17 => ⟨S24, .f32⟩
  | 18 => ⟨S24, .f32⟩
  | 19 => ⟨S1, .f32⟩
  | 20 => ⟨S24, .f32⟩
  | 21 => ⟨S24, .f32⟩
  | 22 => ⟨S24, .f32⟩
  | 23 => ⟨S1, .f32⟩
  | 24 => ⟨S25, .f32⟩
  | 25 => ⟨S25, .f32⟩
  | 26 => ⟨S1x25, .f32⟩
  | 27 => ⟨S1x25, .f32⟩
  | 28 => ⟨S128x1, .f32⟩
  | 29 => ⟨S_, .f32⟩
  | 30 => ⟨S128x1, .f32⟩
  | 31 => ⟨S128x1, .f32⟩
  | 32 => ⟨S128x25, .f32⟩
  | 33 => ⟨S128x25, .f32⟩
  | 34 => ⟨S128x25, .f32⟩
  | 35 => ⟨S_, .f32⟩
  | 36 => ⟨S_, .f32⟩
  | 37 => ⟨S16x128x16408, .f32⟩
  | 38 => ⟨S_, .f32⟩
  | 39 => ⟨S16x128x16384, .f32⟩
  | 40 => ⟨S16x128x16384, .f32⟩
  | 41 => ⟨S128x1, .f32⟩
  | 42 => ⟨S128, .f32⟩
  | 43 => ⟨S1x128x1, .f32⟩
  | 44 => ⟨S16x128x16384, .f32⟩
  | 45 => ⟨S16x128x16384, .f32⟩
  | 46 => ⟨S16x128x16384, .f32⟩
  | 47 => ⟨S16x128x16384, .f32⟩
  | 48 => ⟨S128x1, .f32⟩
  | 49 => ⟨S128, .f32⟩
  | 50 => ⟨S1x128x1, .f32⟩
  | 51 => ⟨S16x128x16384, .f32⟩
  | 52 => ⟨S16x128x16384, .f32⟩
  | 53 => ⟨S16x128x16384, .f32⟩
  | 54 => ⟨S16x128x16384, .f32⟩
  | 55 => ⟨S128x1, .f32⟩
  | 56 => ⟨S128, .f32⟩
  | 57 => ⟨S1x128x1, .f32⟩
  | 58 => ⟨S16x128x16384, .f32⟩
  | 59 => ⟨S16x128x16384, .f32⟩
  | 60 => ⟨S16x128x16384, .f32⟩
  | 61 => ⟨S16x128x16384, .f32⟩
  | 62 => ⟨S128x1, .f32⟩
  | 63 => ⟨S128, .f32⟩
  | 64 => ⟨S1x128x1, .f32⟩
  | 65 => ⟨S16x128x16384, .f32⟩
  | 66 => ⟨S16x128x16384, .f32⟩
  | 67 => ⟨S16x128x16384, .f32⟩
  | 68 => ⟨S16x128x16384, .f32⟩
  | 69 => ⟨S128x1, .f32⟩
  | 70 => ⟨S128, .f32⟩
  | 71 => ⟨S1x128x1, .f32⟩
  | 72 => ⟨S16x128x16384, .f32⟩
  | 73 => ⟨S16x128x16384, .f32⟩
  | 74 => ⟨S16x128x16384, .f32⟩
  | 75 => ⟨S16x128x16384, .f32⟩
  | 76 => ⟨S128x1, .f32⟩
  | 77 => ⟨S128, .f32⟩
  | 78 => ⟨S1x128x1, .f32⟩
  | 79 => ⟨S16x128x16384, .f32⟩
  | 80 => ⟨S16x128x16384, .f32⟩
  | 81 => ⟨S16x128x16384, .f32⟩
  | 82 => ⟨S16x128x16384, .f32⟩
  | 83 => ⟨S128x1, .f32⟩
  | 84 => ⟨S128, .f32⟩
  | 85 => ⟨S1x128x1, .f32⟩
  | 86 => ⟨S16x128x16384, .f32⟩
  | 87 => ⟨S16x128x16384, .f32⟩
  | 88 => ⟨S16x128x16384, .f32⟩
  | 89 => ⟨S16x128x16384, .f32⟩
  | 90 => ⟨S128x1, .f32⟩
  | 91 => ⟨S128, .f32⟩
  | 92 => ⟨S1x128x1, .f32⟩
  | 93 => ⟨S16x128x16384, .f32⟩
  | 94 => ⟨S16x128x16384, .f32⟩
  | 95 => ⟨S16x128x16384, .f32⟩
  | 96 => ⟨S16x128x16384, .f32⟩
  | 97 => ⟨S128x1, .f32⟩
  | 98 => ⟨S128, .f32⟩
  | 99 => ⟨S1x128x1, .f32⟩
  | 100 => ⟨S16x128x16384, .f32⟩
  | 101 => ⟨S16x128x16384, .f32⟩
  | 102 => ⟨S16x128x16384, .f32⟩
  | 103 => ⟨S16x128x16384, .f32⟩
  | 104 => ⟨S128x1, .f32⟩
  | 105 => ⟨S128, .f32⟩
  | 106 => ⟨S1x128x1, .f32⟩
  | 107 => ⟨S16x128x16384, .f32⟩
  | 108 => ⟨S16x128x16384, .f32⟩
  | 109 => ⟨S16x128x16384, .f32⟩
  | 110 => ⟨S16x128x16384, .f32⟩
  | 111 => ⟨S128x1, .f32⟩
  | 112 => ⟨S128, .f32⟩
  | 113 => ⟨S1x128x1, .f32⟩
  | 114 => ⟨S16x128x16384, .f32⟩
  | 115 => ⟨S16x128x16384, .f32⟩
  | 116 => ⟨S16x128x16384, .f32⟩
  | 117 => ⟨S16x128x16384, .f32⟩
  | 118 => ⟨S128x1, .f32⟩
  | 119 => ⟨S128, .f32⟩
  | 120 => ⟨S1x128x1, .f32⟩
  | 121 => ⟨S16x128x16384, .f32⟩
  | 122 => ⟨S16x128x16384, .f32⟩
  | 123 => ⟨S16x128x16384, .f32⟩
  | 124 => ⟨S16x128x16384, .f32⟩
  | 125 => ⟨S128x1, .f32⟩
  | 126 => ⟨S128, .f32⟩
  | 127 => ⟨S1x128x1, .f32⟩
  | _ => ⟨S16x128x16384, .f32⟩

abbrev hbmTy0_1 (i : Nat) : BufTy := match i % 128 with
  | 0 => ⟨S16x128x16384, .f32⟩
  | 1 => ⟨S16x128x16384, .f32⟩
  | 2 => ⟨S16x128x16384, .f32⟩
  | 3 => ⟨S16x128x16384, .f32⟩
  | 4 => ⟨S128x1, .f32⟩
  | 5 => ⟨S128, .f32⟩
  | 6 => ⟨S1x128x1, .f32⟩
  | 7 => ⟨S16x128x16384, .f32⟩
  | 8 => ⟨S16x128x16384, .f32⟩
  | 9 => ⟨S16x128x16384, .f32⟩
  | 10 => ⟨S16x128x16384, .f32⟩
  | 11 => ⟨S128x1, .f32⟩
  | 12 => ⟨S128, .f32⟩
  | 13 => ⟨S1x128x1, .f32⟩
  | 14 => ⟨S16x128x16384, .f32⟩
  | 15 => ⟨S16x128x16384, .f32⟩
  | 16 => ⟨S16x128x16384, .f32⟩
  | 17 => ⟨S16x128x16384, .f32⟩
  | 18 => ⟨S128x1, .f32⟩
  | 19 => ⟨S128, .f32⟩
  | 20 => ⟨S1x128x1, .f32⟩
  | 21 => ⟨S16x128x16384, .f32⟩
  | 22 => ⟨S16x128x16384, .f32⟩
  | 23 => ⟨S16x128x16384, .f32⟩
  | 24 => ⟨S16x128x16384, .f32⟩
  | 25 => ⟨S128x1, .f32⟩
  | 26 => ⟨S128, .f32⟩
  | 27 => ⟨S1x128x1, .f32⟩
  | 28 => ⟨S16x128x16384, .f32⟩
  | 29 => ⟨S16x128x16384, .f32⟩
  | 30 => ⟨S16x128x16384, .f32⟩
  | 31 => ⟨S16x128x16384, .f32⟩
  | 32 => ⟨S128x1, .f32⟩
  | 33 => ⟨S128, .f32⟩
  | 34 => ⟨S1x128x1, .f32⟩
  | 35 => ⟨S16x128x16384, .f32⟩
  | 36 => ⟨S16x128x16384, .f32⟩
  | 37 => ⟨S16x128x16384, .f32⟩
  | 38 => ⟨S16x128x16384, .f32⟩
  | 39 => ⟨S128x1, .f32⟩
  | 40 => ⟨S128, .f32⟩
  | 41 => ⟨S1x128x1, .f32⟩
  | 42 => ⟨S16x128x16384, .f32⟩
  | 43 => ⟨S16x128x16384, .f32⟩
  | 44 => ⟨S16x128x16384, .f32⟩
  | 45 => ⟨S16x128x16384, .f32⟩
  | 46 => ⟨S128x1, .f32⟩
  | 47 => ⟨S128, .f32⟩
  | 48 => ⟨S1x128x1, .f32⟩
  | 49 => ⟨S16x128x16384, .f32⟩
  | 50 => ⟨S16x128x16384, .f32⟩
  | 51 => ⟨S16x128x16384, .f32⟩
  | 52 => ⟨S16x128x16384, .f32⟩
  | 53 => ⟨S128x1, .f32⟩
  | 54 => ⟨S128, .f32⟩
  | 55 => ⟨S1x128x1, .f32⟩
  | 56 => ⟨S16x128x16384, .f32⟩
  | 57 => ⟨S16x128x16384, .f32⟩
  | 58 => ⟨S16x128x16384, .f32⟩
  | 59 => ⟨S16x128x16384, .f32⟩
  | 60 => ⟨S128x1, .f32⟩
  | 61 => ⟨S128, .f32⟩
  | 62 => ⟨S1x128x1, .f32⟩
  | 63 => ⟨S16x128x16384, .f32⟩
  | 64 => ⟨S16x128x16384, .f32⟩
  | 65 => ⟨S16x128x16384, .f32⟩
  | 66 => ⟨S16x128x16384, .f32⟩
  | 67 => ⟨S128x1, .f32⟩
  | 68 => ⟨S128, .f32⟩
  | 69 => ⟨S1x128x1, .f32⟩
  | 70 => ⟨S16x128x16384, .f32⟩
  | 71 => ⟨S16x128x16384, .f32⟩
  | 72 => ⟨S16x128x16384, .f32⟩
  | 73 => ⟨S16x128x16384, .f32⟩
  | 74 => ⟨S128x1, .f32⟩
  | 75 => ⟨S128, .f32⟩
  | 76 => ⟨S1x128x1, .f32⟩
  | 77 => ⟨S16x128x16384, .f32⟩
  | 78 => ⟨S16x128x16384, .f32⟩
  | 79 => ⟨S16x128x16384, .f32⟩
  | 80 => ⟨S16x128x16384, .f32⟩
  | 81 => ⟨S128x1, .f32⟩
  | 82 => ⟨S128, .f32⟩
  | 83 => ⟨S1x128x1, .f32⟩
  | 84 => ⟨S16x128x16384, .f32⟩
  | 85 => ⟨S16x128x16384, .f32⟩
  | 86 => ⟨S16x128x16384, .f32⟩
  | 87 => ⟨S16x128x8192, .f32⟩
  | _ => ⟨S16x128x16384, .f32⟩

abbrev hbmTy (i : Nat) : BufTy := match i / 128 with
  | 0 => hbmTy0_0 i
  | 1 => hbmTy0_1 i
  | _ => ⟨S16x128x16384, .f32⟩

abbrev bufTy : (tb : Table) → Fin (tcTables nBuf tb) → BufTy
  | .hbm, ⟨i, _⟩ => hbmTy i
  | _, _ => ⟨S16x128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_1 : Ref sig .tc := ⟨.hbm, 35, rfl⟩
abbrev main_call1_v0 : Ref sig .tc := ⟨.hbm, 36, rfl⟩
abbrev main_v10 : Ref sig .tc := ⟨.hbm, 37, rfl⟩
abbrev main_cst_2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩

abbrev nD : Nat := 1
abbrev τ : Topo := Topo.v7x

variable {F : FTy → Type} [FloatOps F]
-- ==== Proof.Pieces.lean ====
/-
  The kernel body's stores, written as closed forms: the list of tiles that each scratch receives, by recursion on the
  number of tiles moved, the list of strips that the output receives, chunk by chunk, and the index table that takes the even and the odd columns apart.
-/
module

public import proofs.«01_k».proof.Proof.Gen.KernelIdeal.Value

@[expose] public section

set_option maxRecDepth 16384

noncomputable section

namespace Cert.Dilate

open Cert.KernelIdeal Cert.KernelIdeal.Gen Idealize.ShloMosaic Idealize.ShloMosaic.TcCoe Idealize.ShloMosaic.Tactic

variable {F : FTy → Type} [FloatOps F]

theorem inbIn {k : ℕ} (hk : k < 128) : ∀ a, (![0, 0, 128 * k] : Fin 3 → ℕ) a + S1x128x128.size a ≤ S1x128x16384.size a := by
  intro a; fin_cases a
  · exact Nat.le_refl 1
  · exact Nat.le_refl 128
  · show 128 * k + 128 ≤ 16384; omega

theorem inbRows {k : ℕ} (hk : k < 128) : ∀ a, (![6 + 64 * k, 0] : Fin 2 → ℕ) a + S64x128.size a ≤ S8208x128.size a := by
  intro a; fin_cases a
  · show 6 + 64 * k + 64 ≤ 8208; omega
  · exact Nat.le_refl 128

theorem inbHead : ∀ a, (![0, 0] : Fin 2 → ℕ) a + S6x128.size a ≤ S8208x128.size a := by decide
theorem inbTail : ∀ a, (![8198, 0] : Fin 2 → ℕ) a + S10x128.size a ≤ S8208x128.size a := by decide

/-- The lane that each lane of a tile is taken from: the even ones first, then the odd ones. -/
def lanes : IVec S128x128 32 :=
  shapeCast S128x128 (shapeCast S128x128x1
    (select (cmpi .slt k0_pay8 (broadcast S128x128 0#32)) (addi k0_pay8 (broadcast S128x128 128#32)) k0_pay8)
    shapeCasts_S128x128_S128x128x1) shapeCasts_S128x128x1_S128x128

section
variable (a1 : Memref sig .tc .vmem S1x128x16384 .f32) (h1 : a1.IsWhole) (x0 : Vec F S1x128x16384 .f32)

/-- Tile `k` of the input, its lanes parted and the tile turned: row `r` is one input column, lane by lane a channel. -/
def turned {k : ℕ} (hk : k < 128) : FVec F S128x128 .f32 :=
  transpose S128x128 [1, 0]
    (dynamicGather 1 (shapeCast S128x128 (View.readAt (Elt F) a1.view
      (Rect.unit (s := S1x128x16384) ![0, 0, 128 * k] S1x128x128.size (inbIn hk)).toLoadRect (h1.unread x0)) shapeCasts_S1x128x128_S128x128) lanes)
    transposes_S128x128_p1_0_S128x128

/-- The even columns of tile `k`. -/
def evens {k : ℕ} (hk : k < 128) : FVec F S64x128 .f32 :=
  shapeCast S64x128 (extractStridedSlice S64x128 ![0, 0] (turned a1 h1 x0 hk) slices_S128x128_o0_0_S64x128) shapeCasts_S64x128_S64x128

/-- The odd columns of tile `k`. -/
def odds {k : ℕ} (hk : k < 128) : FVec F S64x128 .f32 :=
  shapeCast S64x128 (extractStridedSlice S64x128 ![64, 0] (turned a1 h1 x0 hk) slices_S128x128_o64_0_S64x128) shapeCasts_S64x128_S64x128

/-- What a scratch has received once `n` tiles are moved, last store first: the two fills, then the tiles in order. -/
def filled (G : {k : ℕ} → k < 128 → FVec F S64x128 .f32) : (n : ℕ) → n ≤ 128 → List (View.Piece (Elt F) S8208x128 .f32)
  | 0, _ => [⟨Rect.unit ![8198, 0] S10x128.size inbTail, k0_pay6⟩, ⟨Rect.unit ![0, 0] S6x128.size inbHead, k0_pay4⟩]
  | n + 1, h => ⟨Rect.unit ![6 + 64 * n, 0] S64x128.size (inbRows h), G h⟩ :: filled G n (Nat.le_of_succ_le h)

end

/-! ## The stores of the output -/

theorem inbRead {q : ℕ} (hq : q < 8) (d : Fin 13) :
    ∀ a, (![1024 * q + d.val, 0] : Fin 2 → ℕ) a + S1024x128.size a ≤ S8208x128.size a := by
  intro a; fin_cases a
  · have := d.isLt; show 1024 * q + d.val + 1024 ≤ 8208; omega
  · exact Nat.le_refl 128

theorem inbOut {q m : ℕ} (hq : q < 8) (hm : m < 8) :
    ∀ a, (![0, 0, 1024 * q + 128 * m] : Fin 3 → ℕ) a + S1x128x128.size a ≤ S1x128x8192.size a := by
  intro a; fin_cases a
  · exact Nat.le_refl 1
  · exact Nat.le_refl 128
  · show 1024 * q + 128 * m + 128 ≤ 8192; omega

theorem slicesStrip {m : ℕ} (hm : m < 8) : S1024x128.Slices ![128 * m, 0] S128x128 := by
  refine ⟨rfl, fun a => ?_⟩
  fin_cases a
  · show 128 * m + 128 ≤ 1024; omega
  · exact Nat.le_refl 128

/-- The kernel's pairs of even taps: the offset of each of the two rows from a chunk's first padded row, and the constant that
    weighs the pair. -/
def evenPairs : List (Fin 13 × Fin 13 × BitVec 32) :=
  [(10, 2, 0xC2800000#32), (8, 4, 0xC1800000#32), (12, 0, 0xC3100000#32), (9, 3, 0xC2100000#32), (11, 1, 0xC2C80000#32),
    (7, 5, 0xC0800000#32)]

/-- The kernel's pairs of odd taps, the same way. -/
def oddPairs : List (Fin 13 × Fin 13 × BitVec 32) :=
  [(8, 3, 0xC1C80000#32), (11, 0, 0xC2F20000#32), (9, 2, 0xC2440000#32), (10, 1, 0xC2A20000#32), (6, 5, 0xBF800000#32),
    (7, 4, 0xC1100000#32)]

section
variable (a4 : Memref sig .tc .vmem S8208x128 .f32) (L : List (View.Piece (Elt F) S8208x128 .f32))

/-- The 1024 rows of a scratch from row `1024 q + d` on. -/
def rowsAt {q : ℕ} (hq : q < 8) (d : Fin 13) : FVec F S1024x128 .f32 :=
  a4.view.readCov L (Rect.unit (s := S8208x128) ![1024 * q + d.val, 0] S1024x128.size (inbRead hq d)).toLoadRect

/-- One pair of taps joined to what a chunk has so far. -/
def joinPair (inv : FVec F S1x128 .f32) {q : ℕ} (hq : q < 8) (acc : FVec F S1024x128 .f32) (p : Fin 13 × Fin 13 × BitVec 32) :
    FVec F S1024x128 .f32 :=
  maximumf acc (addf (maximumf (rowsAt a4 L hq p.1) (rowsAt a4 L hq p.2.1))
    (broadcastTo S1024x128 (mulf (broadcast S1x128 (Scalar.ofBits .f32 p.2.2)) inv) broadcasts_S1x128_S1024x128))

end

/-- Chunk `q` of the output, rows by channels. -/
def chunk (a4 a5 : Memref sig .tc .vmem S8208x128 .f32) (L M : List (View.Piece (Elt F) S8208x128 .f32)) (inv : FVec F S1x128 .f32)
    {q : ℕ} (hq : q < 8) : FVec F S1024x128 .f32 :=
  oddPairs.foldl (joinPair a5 M inv hq) (evenPairs.foldl (joinPair a4 L inv hq) (rowsAt a4 L hq 6))

/-- A strip of a chunk, turned back to channels by columns. -/
def strip (A : FVec F S1024x128 .f32) {m : ℕ} (hm : m < 8) : FVec F S1x128x128 .f32 :=
  shapeCast S1x128x128 (transpose S128x128 [1, 0] (extractStridedSlice S128x128 ![128 * m, 0] A (slicesStrip hm))
    transposes_S128x128_p1_0_S128x128) shapeCasts_S128x128_S1x128x128

/-- The stores of chunk `q`'s first `m` strips, last store first, after the stores `R`. -/
def strips (A : FVec F S1024x128 .f32) {q : ℕ} (hq : q < 8) (R : List (View.Piece (Elt F) S1x128x8192 .f32)) :
    (m : ℕ) → m ≤ 8 → List (View.Piece (Elt F) S1x128x8192 .f32)
  | 0, _ => R
  | m + 1, h => ⟨Rect.unit ![0, 0, 1024 * q + 128 * m] S1x128x128.size (inbOut hq h), strip A h⟩
      :: strips A hq R m (Nat.le_of_succ_le h)

/-- The stores of the first `n` chunks. -/
def written (A : {q : ℕ} → q < 8 → FVec F S1024x128 .f32) : (n : ℕ) → n ≤ 8 → List (View.Piece (Elt F) S1x128x8192 .f32)
  | 0, _ => []
  | n + 1, h => strips (A h) h (written A n (Nat.le_of_succ_le h)) 8 (Nat.le_refl _)

/-- The reciprocal of four times each channel's scale, as the kernel computes it. -/
def inverse (a2 : Memref sig .tc .vmem S8x128 .f32) (h2 : a2.IsWhole) (x1 : Vec F S8x128 .f32) : FVec F S1x128 .f32 :=
  k0_pay585 (View.readAt (Elt F) a2.view (Rect.unit (s := S8x128) ![0, 0] S1x128.size inb_S8x128_S1x128_0_0).toLoadRect (h2.unread x1))

set_option maxHeartbeats 4000000 in
/-- The stores of the output that the body's run lists are these. -/
theorem written_out (c : Dev nD) (i : grid0.Coords) (a1 : Memref sig .tc .vmem S1x128x16384 .f32) (h1 : a1.IsWhole) (a2 : Memref sig .tc .vmem S8x128 .f32) (h2 : a2.IsWhole)
    (a3 : Memref sig .tc .vmem S1x128x8192 .f32) (h3 : a3.IsWhole) (a4 : Memref sig .tc .vmem S8208x128 .f32) (h4 : a4.IsWhole)
    (a5 : Memref sig .tc .vmem S8208x128 .f32) (h5 : a5.IsWhole) (x0 : Vec F S1x128x16384 .f32) (x1 : Vec F S8x128 .f32) :
    (kernelRun0_A c i a1 h1 a2 h2 a3 h3 a4 h4 a5 h5 x0 x1).1
      = written (chunk a4 a5 (filled (evens a1 h1 x0) 128 (Nat.le_refl _)) (filled (odds a1 h1 x0) 128 (Nat.le_refl _))
          (inverse a2 h2 x1)) 8 (Nat.le_refl _) := by
  sl_kernel_rfl

end Cert.Dilate

end
-- ==== Proof.Rows.lean ====
/-
  What the two scratches hold once they are filled: row `r` of the first is column `2 r` of the input padded with −∞ by twelve on
  each side, row `r` of the second is column `2 r + 1`.
-/
module

public import proofs.«01_k».proof.Proof.Pieces
public import Idealize.ShloMosaic.Lib.Pointwise
public import Idealize.ShloMosaic.Lib.Pipeline.ValueKit.Tiles

@[expose] public section

set_option maxRecDepth 16384

noncomputable section

namespace Cert.Dilate

open Cert.KernelIdeal Cert.KernelIdeal.Gen Idealize.ShloMosaic Idealize.ShloMosaic.TcCoe Idealize.ShloMosaic.Tactic

/-- A line of 16384 values padded with −∞ by twelve on each side, at position `n`. -/
def padded (g : Fin 16384 → EReal) (n : ℕ) : EReal := if h : 12 ≤ n ∧ n < 16396 then g ⟨n - 12, by omega⟩ else ⊥

theorem padded_inside (g : Fin 16384 → EReal) (n : ℕ) (j : Fin 16384) (h : n = j.val + 12) : padded g n = g j := by
  subst h
  have hj := j.isLt
  rw [padded, dif_pos ⟨by omega, by omega⟩]
  exact congrArg g (Fin.ext (Nat.add_sub_cancel _ _))

theorem padded_outside (g : Fin 16384 → EReal) (n : ℕ) (h : n < 12 ∨ 16396 ≤ n) : padded g n = ⊥ := by
  rw [padded, dif_neg (by omega)]

/-- The −∞ pattern is the least extended real. -/
theorem neg_inf_bits : Ideal.ofBits .f32 0xFF800000#32 = (⊥ : EReal) := by simp [Ideal.ofBits, Ideal.ieee]

/-- Where each lane comes from, lane by lane. -/
theorem lanes_at (r l : Fin 128) : (lanes (ix2 r l)).toNat = if l.val < 64 then 2 * l.val else 2 * (l.val - 64) + 1 := by
  have e : lanes (ix2 r l) = lanes (ix2 0 l) := by
    unfold lanes k0_pay8
    pointwise
  rw [e]
  revert l
  unfold lanes k0_pay8
  pointwise
  decide +kernel

section
variable (a1 : Memref sig .tc .vmem S1x128x16384 .f32) (h1 : a1.IsWhole) (x0 : Vec Ideal S1x128x16384 .f32)

/-- Channel `c` of a block. -/
def channel (x0 : Vec Ideal S1x128x16384 .f32) (c : Fin 128) (n : Fin 16384) : EReal := x0 (ix3 0 c n)

/-- Row `r` of a turned tile is the column its lane table names. -/
theorem turned_at {k : ℕ} (hk : k < 128) (r c : Fin 128) (n : Fin 16384)
    (hn : n.val = 128 * k + (if r.val < 64 then 2 * r.val else 2 * (r.val - 64) + 1)) :
    turned a1 h1 x0 hk (ix2 r c) = channel x0 c n := by
  have hl := lanes_at c r
  have hr := r.isLt
  have cast (X : S1x128x128.Idx → EReal) (m : Fin 128) : shapeCast S128x128 X shapeCasts_S1x128x128_S128x128 (ix2 c m) = X (ix3 0 c m) := by
    pointwise
  have gather (Y : S128x128.Idx → EReal) (T : IVec S128x128 32) (m : Fin 128) (hm : m.val = (T (ix2 c r)).toNat % 128) :
      transpose S128x128 [1, 0] (dynamicGather 1 Y T) transposes_S128x128_p1_0_S128x128 (ix2 r c) = Y (ix2 c m) := by
    have e : transpose S128x128 [1, 0] (dynamicGather 1 Y T) transposes_S128x128_p1_0_S128x128 (ix2 r c)
        = dynamicGather 1 Y T (ix2 c r) := congrArg (dynamicGather 1 Y T) (funext fun a => by fin_cases a <;> rfl)
    rw [e, dynamicGather_apply]
    refine congrArg Y (funext fun a => ?_)
    fin_cases a
    · rfl
    · exact Fin.ext hm.symm
  unfold turned channel
  rw [View.readAt_eq_ld, h1.read_unread]
  refine (gather _ lanes ⟨if r.val < 64 then 2 * r.val else 2 * (r.val - 64) + 1, by split <;> omega⟩ ?_).trans ((cast _ _).trans ?_)
  · rw [hl, Nat.mod_eq_of_lt (by split <;> omega)]
  refine View.ld_unit_apply_of _ _ _ _ _ _ fun a => ?_
  fin_cases a
  · rfl
  · exact (Nat.zero_add _).symm
  · exact hn

/-- The first or second half of a turned tile, at an index. -/
theorem half_at (o : ℕ) (X : FVec Ideal S128x128 .f32) (h : S128x128.Slices ![o, 0] S64x128) (r : Fin 64) (c m : Fin 128)
    (hm : m.val = o + r.val) : extractStridedSlice S64x128 ![o, 0] X h (ix2 r c) = X (ix2 m c) := by
  refine congrArg X (funext fun a => ?_)
  fin_cases a
  · exact Fin.ext hm.symm
  · exact Fin.ext (Nat.zero_add _)

theorem evens_at {k : ℕ} (hk : k < 128) (r : Fin 64) (c : Fin 128) :
    evens a1 h1 x0 hk (ix2 r c) = padded (channel x0 c) (2 * (6 + 64 * k + r.val)) := by
  have hr := r.isLt
  rw [padded_inside _ _ ⟨128 * k + 2 * r.val, by omega⟩ (by show _ = 128 * k + 2 * r.val + 12; omega)]
  unfold evens
  rw [shapeCast_id]
  rw [half_at 0 _ _ r c ⟨r.val, by omega⟩ (Nat.zero_add _).symm]
  exact turned_at a1 h1 x0 hk ⟨r.val, by omega⟩ c _ (by rw [if_pos (show r.val < 64 from hr)])

theorem odds_at {k : ℕ} (hk : k < 128) (r : Fin 64) (c : Fin 128) :
    odds a1 h1 x0 hk (ix2 r c) = padded (channel x0 c) (2 * (6 + 64 * k + r.val) + 1) := by
  have hr := r.isLt
  rw [padded_inside _ _ ⟨128 * k + (2 * r.val + 1), by omega⟩ (by show _ = 128 * k + (2 * r.val + 1) + 12; omega)]
  unfold odds
  rw [shapeCast_id]
  rw [half_at 64 _ _ r c ⟨64 + r.val, by omega⟩ rfl]
  exact turned_at a1 h1 x0 hk ⟨64 + r.val, by omega⟩ c _
    (by rw [if_neg (show ¬ 64 + r.val < 64 by omega), Nat.add_sub_cancel_left])

end

/-- Filled from tiles that hold a table `W`, over fills of −∞ where `W` is −∞, a scratch holds `W`. -/
theorem canon_filled (G : {k : ℕ} → k < 128 → FVec Ideal S64x128 .f32) (W : ℕ → Fin 128 → EReal)
    (hG : ∀ (k : ℕ) (hk : k < 128) (r : Fin 64) (c : Fin 128), G hk (ix2 r c) = W (6 + 64 * k + r.val) c)
    (hW : ∀ n c, n < 6 ∨ 8198 ≤ n → W n c = ⊥) (y : S8208x128.Idx) :
    View.canon (Val := Elt Ideal) (filled G 128 (Nat.le_refl _)) y = W (y 0).val (y 1) := by
  have pieces : ∀ (n : ℕ) (hn : n ≤ 128), ∀ p ∈ filled G n hn, ∀ x : p.1.shape.Idx,
      p.2 x = (fun y : S8208x128.Idx => W (y 0).val (y 1)) (p.1.emb x) := by
    intro n
    induction n with
    | zero =>
      intro hn p hp x
      simp only [filled, List.mem_cons, List.not_mem_nil, or_false] at hp
      rcases hp with rfl | rfl
      · have e : k0_pay6 (F := Ideal) x = ⊥ := by
          unfold k0_pay6; rw [shapeCast_id]; exact neg_inf_bits
        exact e.trans (hW _ _ (Or.inr (by show 8198 ≤ 8198 + 1 * _; omega))).symm
      · have e : k0_pay4 (F := Ideal) x = ⊥ := by
          unfold k0_pay4; rw [shapeCast_id]; exact neg_inf_bits
        have hx : (x 0).val < 6 := (x 0).isLt
        exact e.trans (hW _ _ (Or.inl (by show 0 + 1 * (x 0).val < 6; omega))).symm
    | succ n ih =>
      intro hn p hp x
      rcases List.mem_cons.mp hp with rfl | hp
      · have e := hG n hn (x 0) (x 1)
        rw [ix2_eta] at e
        refine e.trans ?_
        show W _ _ = W (6 + 64 * n + 1 * (x 0).val) ⟨0 + 1 * (x 1).val, _⟩
        congr 1
        · rw [Nat.one_mul]
        · exact Fin.ext (by show (x 1).val = 0 + 1 * (x 1).val; omega)
      · exact ih _ p hp x
  have member : ∀ (n : ℕ) (hn : n ≤ 128) (k : ℕ) (hk : k < n),
      ⟨Rect.unit ![6 + 64 * k, 0] S64x128.size (inbRows (Nat.lt_of_lt_of_le hk hn)), G (Nat.lt_of_lt_of_le hk hn)⟩ ∈ filled G n hn := by
    intro n
    induction n with
    | zero => intro hn k hk; omega
    | succ n ih =>
      intro hn k hk
      rcases Nat.lt_succ_iff_lt_or_eq.mp hk with h | rfl
      · exact List.mem_cons_of_mem _ (ih _ k h)
      · exact List.mem_cons_self
  have fills : ∀ (n : ℕ) (hn : n ≤ 128), ∀ p ∈ filled G 0 (Nat.zero_le _), p ∈ filled G n hn := by
    intro n
    induction n with
    | zero => intro hn p hp; exact hp
    | succ n ih => intro hn p hp; exact List.mem_cons_of_mem _ (ih _ p hp)
  refine View.canon_apply_of_pieces (fun y : S8208x128.Idx => W (y 0).val (y 1)) (filled G 128 (Nat.le_refl _)) (pieces 128 _) y ?_
  have h0 : (y 0).val < 8208 := (y 0).isLt
  have h1 : (y 1).val < 128 := (y 1).isLt
  by_cases a : (y 0).val < 6
  · refine ⟨⟨Rect.unit ![0, 0] S6x128.size inbHead, k0_pay4 (F := Ideal)⟩, fills 128 (Nat.le_refl _) _ (List.mem_cons_of_mem _ List.mem_cons_self), ?_⟩
    rw [Rect.mem_set_unit]; intro d
    fin_cases d
    · exact ⟨Nat.zero_le _, by show (y 0).val < 0 + 6; omega⟩
    · exact ⟨Nat.zero_le _, by show (y 1).val < 0 + 128; omega⟩
  by_cases b : 8198 ≤ (y 0).val
  · refine ⟨⟨Rect.unit ![8198, 0] S10x128.size inbTail, k0_pay6 (F := Ideal)⟩, fills 128 (Nat.le_refl _) _ List.mem_cons_self, ?_⟩
    rw [Rect.mem_set_unit]; intro d
    fin_cases d
    · exact ⟨b, by show (y 0).val < 8198 + 10; omega⟩
    · exact ⟨Nat.zero_le _, by show (y 1).val < 0 + 128; omega⟩
  · refine ⟨_, member 128 _ (((y 0).val - 6) / 64) (by omega), ?_⟩
    rw [Rect.mem_set_unit]; intro d
    fin_cases d
    · exact ⟨by show 6 + 64 * (((y 0).val - 6) / 64) ≤ (y 0).val; omega, by show (y 0).val < 6 + 64 * (((y 0).val - 6) / 64) + 64; omega⟩
    · exact ⟨Nat.zero_le _, by show (y 1).val < 0 + 128; omega⟩

/-- A load of a scratch so filled. -/
theorem rowsAt_filled (a4 : Memref sig .tc .vmem S8208x128 .f32) (G : {k : ℕ} → k < 128 → FVec Ideal S64x128 .f32)
    (W : ℕ → Fin 128 → EReal)
    (hG : ∀ (k : ℕ) (hk : k < 128) (r : Fin 64) (c : Fin 128), G hk (ix2 r c) = W (6 + 64 * k + r.val) c)
    (hW : ∀ n c, n < 6 ∨ 8198 ≤ n → W n c = ⊥) {q : ℕ} (hq : q < 8) (d : Fin 13) (r : Fin 1024) (c : Fin 128) :
    rowsAt (F := Ideal) a4 (filled G 128 (Nat.le_refl _)) hq d (ix2 r c) = W (1024 * q + r.val + d.val) c := by
  unfold rowsAt
  rw [View.readCov_eq_canon']
  refine (canon_filled G W hG hW _).trans ?_
  show W (1024 * q + d.val + 1 * r.val) ⟨0 + 1 * c.val, _⟩ = _
  congr 1
  · omega
  · exact Fin.ext (by show 0 + 1 * c.val = c.val; omega)

section
variable (a1 : Memref sig .tc .vmem S1x128x16384 .f32) (h1 : a1.IsWhole) (x0 : Vec Ideal S1x128x16384 .f32)

/-- A row of the even scratch, `d` rows on from output column `i`, is that column's tap `2 d`. -/
theorem even_rows (a4 : Memref sig .tc .vmem S8208x128 .f32) {q : ℕ} (hq : q < 8) (d : Fin 13) (r : Fin 1024) (c : Fin 128) :
    rowsAt a4 (filled (evens a1 h1 x0) 128 (Nat.le_refl _)) hq d (ix2 r c)
      = padded (channel x0 c) (2 * (1024 * q + r.val) + 2 * d.val) := by
  rw [rowsAt_filled a4 _ (fun n c => padded (channel x0 c) (2 * n)) (fun k hk r c => evens_at a1 h1 x0 hk r c)
    (fun n c h => padded_outside _ _ (by omega))]
  exact congrArg _ (by omega)

/-- A row of the odd scratch is its tap `2 d + 1`. -/
theorem odd_rows (a5 : Memref sig .tc .vmem S8208x128 .f32) {q : ℕ} (hq : q < 8) (d : Fin 13) (r : Fin 1024) (c : Fin 128) :
    rowsAt a5 (filled (odds a1 h1 x0) 128 (Nat.le_refl _)) hq d (ix2 r c)
      = padded (channel x0 c) (2 * (1024 * q + r.val) + (2 * d.val + 1)) := by
  rw [rowsAt_filled a5 _ (fun n c => padded (channel x0 c) (2 * n + 1)) (fun k hk r c => odds_at a1 h1 x0 hk r c)
    (fun n c h => padded_outside _ _ (by omega))]
  exact congrArg _ (by omega)

end

end Cert.Dilate

end
-- ==== Proof.Taps.lean ====
/-
  The maths of the taps: twenty-five weighed values, met one after the other or in pairs of equal weight about the centre.
-/
module

public import proofs.«01_k».proof.Proof.Rows
public import Idealize.ShloMosaic.Lib.IdealHost

@[expose] public section

noncomputable section

namespace Cert.Dilate

open Cert.KernelIdeal Idealize.ShloMosaic

/-- The pattern `0x40800000` is the extended real four. -/
theorem four_bits : Ideal.ofBits .f32 0x40800000#32 = 4 := by
  rw [show (4 : EReal) = ((4 : ℝ) : EReal) by norm_cast]
  simp [Ideal.ofBits, Ideal.ieee, -EReal.coe_mul]; norm_num

/-- The pattern `0x3F800000` is the extended real one. -/
theorem one_bits : Ideal.ofBits .f32 0x3F800000#32 = 1 := by
  rw [show (1 : EReal) = ((1 : ℝ) : EReal) by norm_cast]
  simp [Ideal.ofBits, Ideal.ieee, -EReal.coe_mul]; norm_num

/-- The weight of tap `d` where `s` is the reciprocal of four times the scale: minus the squared distance from the centre, times `s`. -/
def weight (s : EReal) (d : ℕ) : EReal := ((-(((d : ℝ) - 12) ^ 2) : ℝ) : EReal) * s

/-- The greatest of the twenty-five weighed taps. -/
def peak (u : ℕ → EReal) (s : EReal) : EReal := (List.range 25).foldl (fun acc d => max acc (u d + weight s d)) ⊥

/-- The centre tap has no weight. -/
theorem weight_centre (s : EReal) : weight s 12 = 0 := by
  norm_num [weight]

/-- One pair of taps joined to what there is so far: `a` and `b` are the taps of the two rows. -/
def pairUp (u : ℕ → EReal) (s : EReal) (o : ℕ) (acc : EReal) (p : Fin 13 × Fin 13 × BitVec 32) : EReal :=
  max acc (max (u (2 * p.1.val + o)) (u (2 * p.2.1.val + o)) + Ideal.ofBits .f32 p.2.2 * s)

/-- The constant of a pair is minus the squared distance of both of its taps from the centre. -/
def Weighs (o : ℕ) (p : Fin 13 × Fin 13 × BitVec 32) : Prop :=
  Ideal.ofBits .f32 p.2.2 = ((-(((2 * p.1.val + o : ℕ) : ℝ) - 12) ^ 2 : ℝ) : EReal)
    ∧ ((((2 * p.1.val + o : ℕ) : ℝ) - 12) ^ 2 = (((2 * p.2.1.val + o : ℕ) : ℝ) - 12) ^ 2)

theorem even_weighs : ∀ p ∈ evenPairs, Weighs 0 p := by
  simp only [evenPairs, List.forall_mem_cons, Weighs]
  refine ⟨?_, ?_, ?_, ?_, ?_, ?_, fun _ h => absurd h List.not_mem_nil⟩ <;>
  · constructor
    · simp [Ideal.ofBits, Ideal.ieee, -EReal.coe_mul, -EReal.coe_neg, -EReal.coe_sub, -EReal.coe_pow]; norm_num
    · norm_num

theorem odd_weighs : ∀ p ∈ oddPairs, Weighs 1 p := by
  simp only [oddPairs, List.forall_mem_cons, Weighs]
  refine ⟨?_, ?_, ?_, ?_, ?_, ?_, fun _ h => absurd h List.not_mem_nil⟩ <;>
  · constructor
    · simp [Ideal.ofBits, Ideal.ieee, -EReal.coe_mul, -EReal.coe_neg, -EReal.coe_sub, -EReal.coe_pow]; norm_num
    · norm_num

/-- So joining a pair is joining its two weighed taps. -/
theorem pairUp_eq (u : ℕ → EReal) (s : EReal) (o : ℕ) (p : Fin 13 × Fin 13 × BitVec 32) (hp : Weighs o p) (acc : EReal) :
    pairUp u s o acc p = max acc (max (u (2 * p.1.val + o) + weight s (2 * p.1.val + o))
      (u (2 * p.2.1.val + o) + weight s (2 * p.2.1.val + o))) := by
  have e : weight s (2 * p.2.1.val + o) = weight s (2 * p.1.val + o) := by rw [weight, weight, hp.2]
  rw [pairUp, e, hp.1, max_add_add_right]
  rfl

/-- The pairs, after the centre, meet the same twenty-five weighed taps. -/
theorem paired_peak (u : ℕ → EReal) (s : EReal) :
    oddPairs.foldl (pairUp u s 1) (evenPairs.foldl (pairUp u s 0) (u 12)) = peak u s := by
  have he : ∀ a, evenPairs.foldl (pairUp u s 0) a = evenPairs.foldl (fun acc p => max acc (max (u (2 * p.1.val) + weight s (2 * p.1.val))
      (u (2 * p.2.1.val) + weight s (2 * p.2.1.val)))) a := fun a =>
    List.foldl_ext _ _ a fun acc p hp => pairUp_eq u s 0 p (even_weighs p hp) acc
  have ho : ∀ a, oddPairs.foldl (pairUp u s 1) a = oddPairs.foldl (fun acc p => max acc (max (u (2 * p.1.val + 1) + weight s (2 * p.1.val + 1))
      (u (2 * p.2.1.val + 1) + weight s (2 * p.2.1.val + 1)))) a := fun a =>
    List.foldl_ext _ _ a fun acc p hp => pairUp_eq u s 1 p (odd_weighs p hp) acc
  have hc : u 12 = u 12 + weight s 12 := by rw [weight_centre, add_zero]
  rw [he, ho, hc, peak]
  generalize hx : (fun d => u d + weight s d) = x
  have hx' : ∀ d, u d + weight s d = x d := fun d => congrFun hx d
  simp only [hx', evenPairs, oddPairs, List.foldl_cons, List.foldl_nil, List.range_succ, List.range_zero, List.nil_append,
    List.foldl_append, Fin.coe_ofNat_eq_mod, Nat.reduceMod, Nat.reduceMul, Nat.reduceAdd, bot_le, max_eq_right]
  ac_rfl

/-- The input line of batch `b` and channel `c`. -/
def line (f : S16x128x16384.Idx → EReal) (b : Fin 16) (c : Fin 128) (n : Fin 16384) : EReal := f (ix3 b c n)

/-- The dilation, at stride two, of an array of lines by the parabola of each channel's scale. -/
def dilated (f : S16x128x16384.Idx → EReal) (t : S128.Idx → EReal) (y : S16x128x8192.Idx) : EReal :=
  peak (fun d => padded (line f (y 0) (y 1)) (2 * (y 2).val + d)) (Ideal.div 1 (4 * t (ix1 (y 1))))

end Cert.Dilate

end
-- ==== Proof.Chunk.lean ====
/-
  What one grid step of the kernel leaves in its output block: at channel `c` and column `i`, the greatest of the twenty-five
  weighed taps about input column `2 i`.
-/
module

public import proofs.«01_k».proof.Proof.Taps

@[expose] public section

set_option maxRecDepth 16384

noncomputable section

namespace Cert.Dilate

open Cert.KernelIdeal Cert.KernelIdeal.Gen Idealize.ShloMosaic Idealize.ShloMosaic.TcCoe Idealize.ShloMosaic.Tactic

/-- The reciprocal the kernel weighs its pairs with. -/
theorem inverse_at (a2 : Memref sig .tc .vmem S8x128 .f32) (h2 : a2.IsWhole) (x1 : Vec Ideal S8x128 .f32) (c : Fin 128) :
    inverse a2 h2 x1 (ix2 0 c) = Ideal.div 1 (4 * x1 (ix2 0 c)) := by
  unfold inverse k0_pay585
  rw [View.readAt_eq_ld, h2.read_unread]
  show Ideal.div (Ideal.ofBits .f32 0x3F800000#32) (Ideal.ofBits .f32 0x40800000#32 * shapeCast S1x128 _ shapeCasts_S1x128_S1x128 (ix2 0 c)) = _
  rw [four_bits, one_bits, shapeCast_id]
  refine congrArg (fun z => Ideal.div 1 (4 * z)) (View.ld_unit_apply_of _ _ _ _ _ _ fun a => ?_)
  fin_cases a
  · rfl
  · exact (Nat.zero_add _).symm

/-- A list of pairs joined, row by row and channel by channel, where the loads of the scratch are the taps `u`. -/
theorem joined_at (a : Memref sig .tc .vmem S8208x128 .f32) (L : List (View.Piece (Elt Ideal) S8208x128 .f32))
    (inv : FVec Ideal S1x128 .f32) {q : ℕ} (hq : q < 8) (r : Fin 1024) (c : Fin 128) (u : ℕ → EReal) (s : EReal) (o : ℕ)
    (hu : ∀ d : Fin 13, rowsAt a L hq d (ix2 r c) = u (2 * d.val + o)) (hs : inv (ix2 0 c) = s) :
    ∀ (ps : List (Fin 13 × Fin 13 × BitVec 32)) (acc : FVec Ideal S1024x128 .f32),
      ps.foldl (joinPair a L inv hq) acc (ix2 r c) = ps.foldl (pairUp u s o) (acc (ix2 r c)) := by
  intro ps
  induction ps with
  | nil => intro acc; rfl
  | cons p ps ih =>
    intro acc
    rw [List.foldl_cons, List.foldl_cons, ih]
    refine congrArg (fun z => ps.foldl (pairUp u s o) z) ?_
    show max (acc (ix2 r c)) (max (rowsAt a L hq p.1 (ix2 r c)) (rowsAt a L hq p.2.1 (ix2 r c)) + _) = _
    rw [hu, hu, pairUp, ← hs]
    refine congrArg (fun z => max (acc (ix2 r c)) (_ + Ideal.ofBits .f32 p.2.2 * inv z)) (funext fun b => ?_)
    fin_cases b <;> rfl

/-- A chunk at a row and a channel. -/
theorem chunk_at (a1 : Memref sig .tc .vmem S1x128x16384 .f32) (h1 : a1.IsWhole) (x0 : Vec Ideal S1x128x16384 .f32)
    (a4 a5 : Memref sig .tc .vmem S8208x128 .f32) (inv : FVec Ideal S1x128 .f32) {q : ℕ} (hq : q < 8) (r : Fin 1024) (c : Fin 128) :
    chunk a4 a5 (filled (evens a1 h1 x0) 128 (Nat.le_refl _)) (filled (odds a1 h1 x0) 128 (Nat.le_refl _)) inv hq (ix2 r c)
      = peak (fun d => padded (channel x0 c) (2 * (1024 * q + r.val) + d)) (inv (ix2 0 c)) := by
  unfold chunk
  rw [joined_at a5 _ inv hq r c (fun d => padded (channel x0 c) (2 * (1024 * q + r.val) + d)) _ 1
      (fun d => odd_rows a1 h1 x0 a5 hq d r c) rfl,
    joined_at a4 _ inv hq r c (fun d => padded (channel x0 c) (2 * (1024 * q + r.val) + d)) _ 0
      (fun d => even_rows a1 h1 x0 a4 hq d r c) rfl, even_rows, ← paired_peak]
  rfl

/-- A strip of a chunk, channel by column. -/
theorem strip_at (A : FVec Ideal S1024x128 .f32) {m : ℕ} (hm : m < 8) (x : S1x128x128.Idx) (r : Fin 1024)
    (hr : r.val = 128 * m + (x 2).val) : strip A hm x = A (ix2 r (x 1)) := by
  obtain ⟨z, c, l, rfl⟩ : ∃ z c l, x = ix3 z c l := ⟨_, _, _, eq_ix3 x⟩
  have cast (X : S128x128.Idx → EReal) : shapeCast S1x128x128 X shapeCasts_S128x128_S1x128x128 (ix3 z c l) = X (ix2 c l) := by
    pointwise
  unfold strip
  rw [cast]
  refine congrArg A (funext fun b => ?_)
  fin_cases b
  · exact Fin.ext hr.symm
  · exact Fin.ext (Nat.zero_add _)

/-- The stores of the output agree with a table `T` of columns by channels that the chunks hold. -/
theorem written_agrees (A : {q : ℕ} → q < 8 → FVec Ideal S1024x128 .f32) (T : ℕ → Fin 128 → EReal)
    (hA : ∀ (q : ℕ) (hq : q < 8) (r : Fin 1024) (c : Fin 128), A hq (ix2 r c) = T (1024 * q + r.val) c) :
    ∀ (n : ℕ) (hn : n ≤ 8), ∀ p ∈ written A n hn, ∀ x : p.1.shape.Idx,
      p.2 x = (fun y : S1x128x8192.Idx => T (y 2).val (y 1)) (p.1.emb x) := by
  intro n
  induction n with
  | zero => intro hn p hp; exact absurd hp List.not_mem_nil
  | succ n ih =>
    intro hn
    have steps : ∀ (m : ℕ) (hm : m ≤ 8), ∀ p ∈ strips (A hn) hn (written A n (Nat.le_of_succ_le hn)) m hm, ∀ x : p.1.shape.Idx,
        p.2 x = (fun y : S1x128x8192.Idx => T (y 2).val (y 1)) (p.1.emb x) := by
      intro m
      induction m with
      | zero => intro hm p hp x; exact ih _ p hp x
      | succ m ihm =>
        intro hm p hp x
        rcases List.mem_cons.mp hp with rfl | hp
        · have hx : (x 2).val < 128 := (x 2).isLt
          refine (strip_at (A hn) hm x ⟨128 * m + (x 2).val, by omega⟩ rfl).trans ((hA n hn _ _).trans ?_)
          show T (1024 * n + (128 * m + (x 2).val)) (x 1) = T (1024 * n + 128 * m + 1 * (x 2).val) ⟨0 + 1 * (x 1).val, _⟩
          congr 1
          · omega
          · exact Fin.ext (by show (x 1).val = 0 + 1 * (x 1).val; omega)
        · exact ihm _ p hp x
    exact steps 8 (Nat.le_refl _)

/-- The block one grid step leaves. -/
theorem out_at (c : Dev nD) (i : grid0.Coords) (a1 : Memref sig .tc .vmem S1x128x16384 .f32) (h1 : a1.IsWhole) (a2 : Memref sig .tc .vmem S8x128 .f32) (h2 : a2.IsWhole)
    (a3 : Memref sig .tc .vmem S1x128x8192 .f32) (h3 : a3.IsWhole) (a4 : Memref sig .tc .vmem S8208x128 .f32) (h4 : a4.IsWhole)
    (a5 : Memref sig .tc .vmem S8208x128 .f32) (h5 : a5.IsWhole) (x0 : Vec Ideal S1x128x16384 .f32) (x1 : Vec Ideal S8x128 .f32)
    (y : S1x128x8192.Idx) :
    out0_A_2 c i a1 h1 a2 h2 a3 h3 a4 h4 a5 h5 x0 x1 y
      = peak (fun d => padded (channel x0 (y 1)) (2 * (y 2).val + d)) (Ideal.div 1 (4 * x1 (ix2 0 (y 1)))) := by
  unfold out0_A_2
  refine View.read_writes_apply_of_pieces _ _
    (fun y : S1x128x8192.Idx => (fun n c => peak (fun d => padded (channel x0 c) (2 * n + d)) (Ideal.div 1 (4 * x1 (ix2 0 c)))) (y 2).val (y 1))
    _ ?_ y (cover0_A_2 c i a1 h1 a2 h2 a3 h3 a4 h4 a5 h5 x0 x1 y)
  rw [written_out]
  refine written_agrees _ (fun n c => peak (fun d => padded (channel x0 c) (2 * n + d)) (Ideal.div 1 (4 * x1 (ix2 0 c)))) ?_ 8 _
  intro q hq r c
  rw [chunk_at, inverse_at]

end Cert.Dilate

end
-- ==== Proof.Whole.lean ====
/-
  The kernel's whole result: block by block, the greatest of the twenty-five weighed taps of the launched arrays.
-/
module

public import proofs.«01_k».proof.Proof.Chunk
public import Idealize.ShloMosaic.Lib.Pipeline.ValueKit.Geometry

@[expose] public section

set_option maxRecDepth 16384

noncomputable section

namespace Cert.Dilate

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem index_in : ∀ t : Fin cfg0.N, win0_0.index t = ![t.val, 0, 0] := (by decide +kernel : ∀ t : Fin grid0.N, _)
theorem index_scale : ∀ t : Fin cfg0.N, win0_1.index t = ![0, 0] := (by decide +kernel : ∀ t : Fin grid0.N, _)
theorem index_out : ∀ t : Fin cfg0.N, win0_2.index t = ![t.val, 0, 0] := (by decide +kernel : ∀ t : Fin grid0.N, _)

/-- What the kernel's second operand holds as the grid starts: each scale, on eight rows. -/
theorem scales (c : Dev nD) (r : Fin 8) (k : Fin 128) :
    V m c main_call0_v1 (ix2 r k) = m ((c : Thread nD τ).loc main_arg1) (ix1 k) := by
  have e : V m c main_call0_v1 = broadcastInDim S8x128 ![0, 1] bcast_S1x128_S8x128_0_1 (broadcastInDim S1x128 ![1] bcast_S128_S1x128_1
      (m ((c : Thread nD τ).loc main_arg1))) := rfl
  rw [e]
  pointwise

/-- The result array after the run. -/
theorem whole (c : Dev nD) : (dats m 0 c).arrAt 2 cfg0.N
    = dilated (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  rw [out_at]
  have hb : (y 0).val = 0 := by have h : (y 0).val < 1 := (y 0).isLt; omega
  have e1 : ((win0_2.blk t).view.emb y) 1 = y 1 := Fin.ext (by blk_simp [index_out])
  have e2 : (((win0_2.blk t).view.emb y) 2).val = (y 2).val := by blk_simp [index_out]
  have hx (n : Fin 16384) : channel (iblk m c 0 t) (y 1) n
      = line (m ((c : Thread nD τ).loc main_arg0)) (((win0_2.blk t).view.emb y) 0) (((win0_2.blk t).view.emb y) 1) n := by
    unfold channel line
    blk_simp [iblk]
    rw [V_main_arg0]
    refine congrArg (m ((c : Thread nD τ).loc main_arg0)) ?_
    blk_ext [index_in, index_out]
  have hs : iblk m c 1 t (ix2 0 (y 1)) = m ((c : Thread nD τ).loc main_arg1) (ix1 (((win0_2.blk t).view.emb y) 1)) := by
    rw [e1, ← scales m c 0 (y 1)]
    blk_simp [iblk]
    refine congrArg (V m c main_call0_v1) ?_
    blk_ext [index_scale]
  unfold dilated
  rw [hs, e2, show channel (iblk m c 0 t) (y 1) = line _ _ _ from funext hx]

end Cert.Dilate

end
-- ==== Proof.Reference.lean ====
/-
  What the plain computation leaves: at channel `c` and column `i`, the greatest of the same twenty-five weighed taps.
-/
module

public import proofs.«01_k».proof.Proof.Taps
public import proofs.«01_k».proof.Proof.Gen.ReferenceIdeal.Run

@[expose] public section

set_option maxRecDepth 16384

noncomputable section

namespace Cert.Dilate.Plain

open Cert.ReferenceIdeal Cert.ReferenceIdeal.Gen Cert.ReferenceIdeal.Value Idealize.ShloMosaic Idealize.ShloMosaic.TcCoe
open Idealize.ShloMosaic.StableHlo Idealize.SL.Sem

variable (V : Valuation τ sig (Elt Ideal))

/-- The padded input at an index. -/
theorem padded_at (b : Fin 16) (c : Fin 128) (n : Fin 16408) :
    res_main_v10 (F := Ideal) V (ix3 b c n) = padded (line (V (Proc.devRef .tc main_arg0)) b c) n.val := by
  unfold res_main_v10 pad padded
  have hn := n.isLt
  by_cases h : 12 ≤ n.val ∧ n.val < 16396
  · rw [dif_pos h, dif_pos]
    · refine congrArg (V (Proc.devRef .tc main_arg0)) (funext fun a => ?_)
      fin_cases a
      · exact Fin.ext (Nat.div_one _)
      · exact Fin.ext (Nat.div_one _)
      · exact Fin.ext (Nat.div_one _)
    · intro a
      fin_cases a
      · exact ⟨Nat.zero_le _, Nat.mod_one _, by show (b.val - 0) / 1 < 16; omega⟩
      · exact ⟨Nat.zero_le _, Nat.mod_one _, by show (c.val - 0) / 1 < 128; omega⟩
      · exact ⟨h.1, Nat.mod_one _, by show (n.val - 12) / 1 < 16384; omega⟩
  · rw [dif_neg h, dif_neg]
    · exact neg_inf_bits
    · intro k
      have h2 := k 2
      have ha : 12 ≤ n.val := h2.1
      have hb : (n.val - 12) / 1 < 16384 := h2.2.2
      exact h ⟨ha, by omega⟩

/-- The pattern `0x41C00000` is the extended real twenty-four. -/
theorem twenty_four_bits : Ideal.ofBits .f32 0x41C00000#32 = ((24 : ℝ) : EReal) := by
  simp [Ideal.ofBits, Ideal.ieee, -EReal.coe_mul]; norm_num

/-- A quotient by twenty-four. -/
theorem div_twenty_four (x : ℝ) : Ideal.div (x : EReal) ((24 : ℝ) : EReal) = ((x / 24 : ℝ) : EReal) := by
  unfold Ideal.div
  rw [if_neg (by norm_num), ← EReal.coe_inv, ← EReal.coe_mul, div_eq_mul_inv]

/-- The offset of tap `d` from the centre. -/
theorem offset_at (d : Fin 25) : res_main_v0 (F := Ideal) V (ix1 d) = (((d.val : ℝ) - 12 : ℝ) : EReal) := by
  unfold res_main_v0 res_main_call0_v6 res_main_call0_v0 res_main_call0_v1
  pointwise
  have hd := d.isLt
  have hi : (FloatOps.sitofp (F := Ideal) .f32 (BitVec.ofNat 32 d.val) : EReal) = ((d.val : ℝ) : EReal) := by
    show (((BitVec.ofNat 32 d.val).toInt : ℝ) : EReal) = _
    have h : (BitVec.ofNat 32 d.val).toInt = (d.val : ℤ) := by
      rw [BitVec.toInt_ofNat']
      exact Int.bmod_eq_of_le (by omega) (by omega)
    rw [h]
    norm_cast
  have hl : (FloatOps.sitofp (F := Ideal) .f32 4294967284#32 : EReal) = ((-12 : ℝ) : EReal) := by
    show (((4294967284#32).toInt : ℝ) : EReal) = _
    rw [show (4294967284#32).toInt = -12 by decide]
    norm_num
  have hh : (FloatOps.sitofp (F := Ideal) .f32 12#32 : EReal) = ((12 : ℝ) : EReal) := by
    show (((12#32).toInt : ℝ) : EReal) = _
    rw [show (12#32).toInt = 12 by decide]
    norm_num
  rw [hi, hl, hh, twenty_four_bits, div_twenty_four]
  split
  · rw [show (1 : EReal) = ((1 : ℝ) : EReal) by norm_cast, ← EReal.coe_sub, ← EReal.coe_mul, ← EReal.coe_mul, ← EReal.coe_add]
    refine congrArg _ ?_
    ring
  · have h : d.val = 24 := by omega
    rw [h]
    norm_num

/-- The weight of tap `d`, where the scale is not zero. -/
theorem weight_at (c : Fin 128) (d : Fin 25) (ht : V (Proc.devRef .tc main_arg1) (ix1 c) ≠ (0 : EReal)) :
    res_main_v9 (F := Ideal) V (ix2 c d) = weight (Ideal.div 1 (4 * V (Proc.devRef .tc main_arg1) (ix1 c))) d.val := by
  unfold res_main_v9
  pointwise
  have h4 : (4 : EReal) * V (Proc.devRef .tc main_arg1) (ix1 c) ≠ 0 := mul_ne_zero (by norm_num) ht
  rw [offset_at, four_bits, weight, Ideal.mul_one_div h4, ← EReal.coe_mul, ← EReal.coe_neg, pow_two]

/-- One tap added to its weight, at an index. -/
theorem tap_at (ht : ∀ c : Fin 128, V (Proc.devRef .tc main_arg1) (ix1 c) ≠ (0 : EReal)) (d : ℕ)
    (h : S16x128x16408.Slices ![0, 0, d] S16x128x16384) (h' : S128x25.Slices ![0, d] S128x1) (b : Fin 16) (c : Fin 128) (n : Fin 16384) :
    addf (F := Ideal) (φ := .f32) (extractStridedSlice S16x128x16384 ![0, 0, d] (res_main_v10 V) h)
      (broadcastInDim S16x128x16384 ![0, 1, 2] bcast_S1x128x1_S16x128x16384_0_1_2 (broadcastInDim S1x128x1 ![1] bcast_S128_S1x128x1_1
        (shapeCast _ (extractStridedSlice S128x1 ![0, d] (res_main_v9 V) h') shapeCasts_S128x1_S128))) (ix3 b c n)
      = padded (line (V (Proc.devRef .tc main_arg0)) b c) (n.val + d)
        + weight (Ideal.div 1 (4 * V (Proc.devRef .tc main_arg1) (ix1 c))) d := by
  pointwise
  refine congrArg₂ (fun a b : EReal => a + b) ((padded_at V b c _).trans ?_) (weight_at V c _ (ht c))
  exact congrArg _ (Nat.add_comm d n.val)

/-- Every second column, at an index. -/
theorem every_other (X : S16x128x16384.Idx → EReal) (h : S16x128x16384.SlicesBy ![0, 0, 0] ![1, 1, 2] S16x128x8192) (b : Fin 16) (c : Fin 128)
    (n : Fin 8192) : Host.slice S16x128x8192 ![0, 0, 0] ![1, 1, 2] X h (ix3 b c n) = X (ix3 b c ⟨2 * n.val, by omega⟩) := by
  pointwise

/-- The fill that the taps are joined to, at an index. -/
theorem fill_at (b : Fin 16) (c : Fin 128) (n : Fin 16384) :
    broadcastInDim S16x128x16384 ![] bcast_S_S16x128x16384 (constant (F := Ideal) S_ .f32 0xFF800000#32) (ix3 b c n) = (⊥ : EReal) :=
  neg_inf_bits

/-- Two joined arrays, at an index. -/
theorem join_at (X Y : FVec Ideal S16x128x16384 .f32) (b : Fin 16) (c : Fin 128) (n : Fin 16384) :
    maximumf X Y (ix3 b c n) = max (X (ix3 b c n)) (Y (ix3 b c n)) := rfl

/-- The plain computation's run: its result is the dilation of its arguments, where no scale is zero, and they are unchanged. -/
theorem run_dilated (m : (ℓ : Loc nD τ sig) → Buf (Elt Ideal) ℓ) (ρ : Dev nD → PrngReg)
    (ht : ∀ (c : Dev nD) (k : Fin 128), m ((c.tc : Thread nD τ).loc main_arg1) (ix1 k) ≠ (0 : EReal)) :
    θ_run defs (onTc (τ := τ) (main (F := Ideal))) ⟨m, fun _ => 0, ρ⟩ fun r => ∀ c : Dev nD,
      r.2.mem ((c.tc : Thread nD τ).loc main_v187) = dilated (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (run m ρ)
  funext y
  obtain ⟨b, k, n, rfl⟩ : ∃ b k n, y = ix3 b k n := ⟨_, _, _, eq_ix3 y⟩
  refine (every_other _ _ b k n).trans ?_
  unfold res_main_v165 res_main_v88
  simp only [join_at, fill_at, tap_at (launchContents m c) (ht c)]
  unfold dilated peak
  simp only [List.foldl_cons, List.foldl_nil, List.range_succ, List.range_zero, List.nil_append, List.foldl_append]
  rfl

end Cert.Dilate.Plain

end
-- ==== Proof.lean ====
/-
  The claims, put together: the three frames from the generated runs, and the equality of the two results from the closed forms of
  Proof/Whole.lean and Proof/Reference.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Whole
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe

/-- The precondition's one stated fact: a scalar spreads over the channels. -/
theorem scales_facts : Cert.Pre_scales_nonzero.Facts := ⟨by decide⟩

/-- The precondition at a channel: its scale is not zero. -/
theorem scale_ne_zero [Cert.Pre_scales_nonzero.Facts] (f : FVec Ideal Cert.Pre_scales_nonzero.S16x128x16384 .f32)
    (t : FVec Ideal Cert.Pre_scales_nonzero.S128 .f32) (h : Cert.Pre_scales_nonzero.fn f t = fun _ => 1#1) (k : Fin 128) :
    t (ix1 k) ≠ (0 : EReal) := by
  intro e
  have hk : BitVec.ofBool (decide (t (ix1 k) ≠ Ideal.ofBits .f32 0x00000000#32)) = 1#1 := congrFun h (ix1 k)
  have z : Ideal.ofBits .f32 0x00000000#32 = (0 : EReal) := by simp [Ideal.ofBits, Ideal.ieee]
  rw [e, z] at hk
  simp at hk

/-- The plain computation's frame: its run read at the arguments; it has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- Where no scale is zero, both programs leave the dilation of their arguments. -/
theorem same_result [Cert.Pre_scales_nonzero.Facts] : Cert.algebraic_KernelIdeal_ReferenceIdeal_pre_scales_nonzero := by
  intro m g m' g' hpre hagree
  refine ⟨fun c => Cert.Dilate.dilated (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono (fun r h c => ⟨(h c).1.trans (Cert.Dilate.whole m c), (h c).2⟩)
      (Cert.KernelIdeal.Value.run_blocks (F := Ideal) m g)
  · refine (θ_run Cert.ReferenceIdeal.defs _ _).mono (fun r h c => ⟨(h c).1.trans ?_, (h c).2⟩)
      (Cert.Dilate.Plain.run_dilated m' g' fun c k => ?_)
    · rw [(hagree c).2]
      exact scale_ne_zero _ _ (hpre c) k
    · rw [(hagree c).1, (hagree c).2]

theorem claim : Cert.Claim :=
  ⟨Cert.Kernel.Gen.facts, Cert.KernelIdeal.Gen.facts, Cert.ReferenceIdeal.Gen.facts, scales_facts,
    fun m g _ => Cert.Kernel.Gen.frame m g,
    fun m g _ => Cert.KernelIdeal.Gen.frame m g,
    fun m g _ => Cert.KernelIdeal.Gen.frame m g,
    fun m g _ => frame_reference m g,
    fun m g _ => frame_reference m g,
    trivial,
    haveI := scales_facts
    same_result⟩

end Cert.Proof

end
